-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S500000x3 : Shape := ⟨2, ![500000, 3]⟩
abbrev S500000 : Shape := ⟨1, ![500000]⟩
abbrev S3x32 : Shape := ⟨2, ![3, 32]⟩
abbrev S32 : Shape := ⟨1, ![32]⟩
abbrev S_ : Shape := ⟨0, ![]⟩
abbrev S1x3x1x32 : Shape := ⟨4, ![1, 3, 1, 32]⟩
abbrev S1x3x32x32 : Shape := ⟨4, ![1, 3, 32, 32]⟩
abbrev S3x1024 : Shape := ⟨2, ![3, 1024]⟩
abbrev S32x32 : Shape := ⟨2, ![32, 32]⟩
abbrev S1024 : Shape := ⟨1, ![1024]⟩
abbrev S1x1024 : Shape := ⟨2, ![1, 1024]⟩
abbrev S8x1024 : Shape := ⟨2, ![8, 1024]⟩
abbrev S125x1x4000 : Shape := ⟨3, ![125, 1, 4000]⟩
abbrev S128x1024 : Shape := ⟨2, ![128, 1024]⟩
abbrev S4000x3 : Shape := ⟨2, ![4000, 3]⟩
abbrev S1x1x4000 : Shape := ⟨3, ![1, 1, 4000]⟩
abbrev S4000x1024 : Shape := ⟨2, ![4000, 1024]⟩
abbrev S1x4000 : Shape := ⟨2, ![1, 4000]⟩
abbrev S128x1 : Shape := ⟨2, ![128, 1]⟩
abbrev S128x4000 : Shape := ⟨2, ![128, 4000]⟩
abbrev S128x32x32 : Shape := ⟨3, ![128, 32, 32]⟩

abbrev nBuf : Space → Nat
  | .hbm => 20
  | .vmem => 7
  | .smem => 0
  | _ => 0

abbrev bufTy : (tb : Table) → Fin (tcTables nBuf tb) → BufTy
  | .hbm, ⟨0, _⟩ => ⟨S500000x3, .f32⟩
  | .hbm, ⟨1, _⟩ => ⟨S500000, .i32⟩
  | .hbm, ⟨2, _⟩ => ⟨S3x32, .f32⟩
  | .hbm, ⟨3, _⟩ => ⟨S32, .f32⟩
  | .hbm, ⟨4, _⟩ => ⟨S_, .f32⟩
  | .hbm, ⟨5, _⟩ => ⟨S3x32, .f32⟩
  | .hbm, ⟨6, _⟩ => ⟨S3x32, .f32⟩
  | .hbm, ⟨7, _⟩ => ⟨S1x3x1x32, .f32⟩
  | .hbm, ⟨8, _⟩ => ⟨S1x3x32x32, .f32⟩
  | .hbm, ⟨9, _⟩ => ⟨S3x1024, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32x32, .f32⟩
  | .hbm, ⟨14, _⟩ => ⟨S1024, .f32⟩
  | .hbm, ⟨15, _⟩ => ⟨S1x1024, .f32⟩
  | .hbm, ⟨16, _⟩ => ⟨S8x1024, .f32⟩
  | .hbm, ⟨17, _⟩ => ⟨S125x1x4000, .i32⟩
  | .hbm, ⟨18, _⟩ => ⟨S128x1024, .f32⟩
  | .hbm, ⟨19, _⟩ => ⟨S128x32x32, .f32⟩
  | .local _ .vmem, ⟨0, _⟩ => ⟨S4000x3, .f32⟩
  | .local _ .vmem, ⟨1, _⟩ => ⟨S4000x3, .f32⟩
  | .local _ .vmem, ⟨2, _⟩ => ⟨S1x1x4000, .i32⟩
  | .local _ .vmem, ⟨3, _⟩ => ⟨S1x1x4000, .i32⟩
  | .local _ .vmem, ⟨4, _⟩ => ⟨S3x1024, .f32⟩
  | .local _ .vmem, ⟨5, _⟩ => ⟨S8x1024, .f32⟩
  | .local _ .vmem, ⟨6, _⟩ => ⟨S128x1024, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S500000x3 : Shape := ⟨2, ![500000, 3]⟩
abbrev S500000 : Shape := ⟨1, ![500000]⟩
abbrev S3x32 : Shape := ⟨2, ![3, 32]⟩
abbrev S32 : Shape := ⟨1, ![32]⟩
abbrev S500000x32 : Shape := ⟨2, ![500000, 32]⟩
abbrev S1x32x1 : Shape := ⟨3, ![1, 32, 1]⟩
abbrev S500000x1x32 : Shape := ⟨3, ![500000, 1, 32]⟩
abbrev S500000x32x32 : Shape := ⟨3, ![500000, 32, 32]⟩
abbrev S_ : Shape := ⟨0, ![]⟩
abbrev S128x32x32 : Shape := ⟨3, ![128, 32, 32]⟩
abbrev S500000x1 : Shape := ⟨2, ![500000, 1]⟩

abbrev nBuf : Space → Nat
  | .hbm => 25
  | .vmem => 0
  | .smem => 0
  | _ => 0

abbrev bufTy : (tb : Table) → Fin (tcTables nBuf tb) → BufTy
  | .hbm, ⟨0, _⟩ => ⟨S500000x3, .f32⟩
  | .hbm, ⟨1, _⟩ => ⟨S500000, .i32⟩
  | .hbm, ⟨2, _⟩ => ⟨S3x32, .f32⟩
  | .hbm, ⟨3, _⟩ => ⟨S32, .f32⟩
  | .hbm, ⟨4, _⟩ => ⟨S500000x32, .f32⟩
  | .hbm, ⟨5, _⟩ => ⟨S1x32x1, .f32⟩
  | .hbm, ⟨6, _⟩ => ⟨S500000x1x32, .f32⟩
  | .hbm, ⟨7, _⟩ => ⟨S500000x32x32, .f32⟩
  | .hbm, ⟨8, _⟩ => ⟨S500000x32x32, .f32⟩
  | .hbm, ⟨9, _⟩ => ⟨S500000x32x32, .f32⟩
  | .hbm, ⟨10, _⟩ => ⟨S_, .f32⟩
  | .hbm, ⟨11, _⟩ => ⟨S500000x32x32, .f32⟩
  | .hbm, ⟨12, _⟩ => ⟨S500000x32x32, .f32⟩
  | .hbm, ⟨13, _⟩ => ⟨S500000x32x32, .f32⟩
  | .hbm, ⟨14, _⟩ => ⟨S500000x32x32, .f32⟩
  | .hbm, ⟨15, _⟩ => ⟨S_, .f32⟩
  | .hbm, ⟨16, _⟩ => ⟨S500000x32x32, .f32⟩
  | .hbm, ⟨17, _⟩ => ⟨S500000x32x32, .f32⟩
  | .hbm, ⟨18, _⟩ => ⟨S_, .f32⟩
  | .hbm, ⟨19, _⟩ => ⟨S500000x32x32, .f32⟩
  | .hbm, ⟨20, _⟩ => ⟨S500000x32x32, .f32⟩
  | .hbm, ⟨21, _⟩ => ⟨S_, .f32⟩
  | .hbm, ⟨22, _⟩ => ⟨S128x32x32, .f32⟩
  | .hbm, ⟨23, _⟩ => ⟨S500000x1, .i32⟩
  | .hbm, ⟨24, _⟩ => ⟨S128x32x32, .f32⟩
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Sigmoid.lean ====
/-
  The extended-real arithmetic of one soft indicator: the logistic function of `500·w` is `½·tanh(250·w) + ½`, and
  the factor 250 may be moved into both terms of `w = l − ∑ₖ xₖ·vₖ`. Both hold at the infinities too.
-/
module

public import Idealize.ShloMosaic.PureOps.Ideal
public import Mathlib.Analysis.SpecialFunctions.Trigonometric.DerivHyp

@[expose] public section

noncomputable section

open Idealize.ShloMosaic
open scoped BigOperators

namespace Cert.Soft

/-- The word `0x437A0000` is the number 250. -/
theorem word_250 : Ideal.ofBits .f32 0x437A0000#32 = ((250 : ℝ) : EReal) := by
  simp [Ideal.ofBits, Ideal.ieee, -EReal.coe_mul]; norm_num
/-- The word `0x43FA0000` is the number 500. -/
theorem word_500 : Ideal.ofBits .f32 0x43FA0000#32 = ((500 : ℝ) : EReal) := by
  simp [Ideal.ofBits, Ideal.ieee, -EReal.coe_mul]; norm_num
/-- The word `0x3F000000` is the number one half. -/
theorem word_half : Ideal.ofBits .f32 0x3F000000#32 = ((1 / 2 : ℝ) : EReal) := by
  simp [Ideal.ofBits, Ideal.ieee, -EReal.coe_mul]; norm_num
/-- The word `0x3F800000` is the number 1. -/
theorem word_one : Ideal.ofBits .f32 0x3F800000#32 = ((1 : ℝ) : EReal) := by
  simp [Ideal.ofBits, Ideal.ieee, -EReal.coe_mul]; norm_num
/-- The word `0x00000000` is the number 0. -/
theorem word_zero : Ideal.ofBits .f32 0x00000000#32 = 0 := by
  simp [Ideal.ofBits, Ideal.ieee]

/-- The logistic function of `500·w`, as the reference computes it: `1 / (1 + exp(−(500·w)))`. -/
def logistic (w : EReal) : EReal :=
  Ideal.div ((1 : ℝ) : EReal) (((1 : ℝ) : EReal) + Ideal.exp (-(((500 : ℝ) : EReal) * w)))

/-- One half of the hyperbolic tangent of `w`, plus one half: the kernel's form. -/
def halfAngle (w : EReal) : EReal :=
  ((1 / 2 : ℝ) : EReal) * Ideal.tanh w + ((1 / 2 : ℝ) : EReal)

/-- Over the reals, `1 / (1 + exp(−500 w)) = ½·tanh(250 w) + ½`. -/
theorem real_logistic (w : ℝ) : 1 * (1 + Real.exp (-(500 * w)))⁻¹ = 1 / 2 * Real.tanh (w * 250) + 1 / 2 := by
  have e1 : Real.exp (-(500 * w)) = Real.exp (-(w * 250)) * Real.exp (-(w * 250)) := by
    rw [← Real.exp_add]; congr 1; ring
  have e2 : Real.exp (w * 250) * Real.exp (-(w * 250)) = 1 := by
    rw [← Real.exp_add]; simp
  have p1 := Real.exp_pos (-(w * 250))
  have p2 := Real.exp_pos (w * 250)
  rw [Real.tanh_eq_sinh_div_cosh, Real.sinh_eq, Real.cosh_eq, e1]
  generalize Real.exp (-(w * 250)) = b at *
  generalize Real.exp (w * 250) = a at *
  have h1 : 1 + b * b ≠ 0 := by positivity
  have h2 : a + b ≠ 0 := by positivity
  field_simp
  linear_combination (-2 * b) * e2

/-- The logistic function of `500·w` is the half-angle form at `w·250`, for every extended real `w`. -/
theorem logistic_eq_halfAngle (w : EReal) : logistic w = halfAngle (w * ((250 : ℝ) : EReal)) := by
  unfold logistic halfAngle
  induction w using EReal.rec with
  | bot =>
    rw [EReal.coe_mul_bot_of_pos (by norm_num), EReal.bot_mul_coe_of_pos (by norm_num), EReal.neg_bot]
    show Ideal.div _ (((1 : ℝ) : EReal) + ⊤) = ((1 / 2 : ℝ) : EReal) * ((-1 : ℝ) : EReal) + _
    rw [EReal.coe_add_top, ← EReal.coe_mul, ← EReal.coe_add]
    unfold Ideal.div
    rw [if_neg EReal.top_ne_zero, EReal.inv_top, mul_zero]
    norm_num
  | top =>
    rw [EReal.coe_mul_top_of_pos (by norm_num), EReal.top_mul_coe_of_pos (by norm_num), EReal.neg_top]
    show Ideal.div _ (((1 : ℝ) : EReal) + ((0 : ℝ) : EReal)) = ((1 / 2 : ℝ) : EReal) * ((1 : ℝ) : EReal) + _
    rw [← EReal.coe_add, ← EReal.coe_mul, ← EReal.coe_add]
    unfold Ideal.div
    rw [if_neg (by norm_num), ← EReal.coe_inv, ← EReal.coe_mul]
    norm_num
  | coe r =>
    have h : (1 + Real.exp (-(500 * r))) ≠ 0 := by positivity
    rw [← EReal.coe_mul, ← EReal.coe_neg, ← EReal.coe_mul]
    show Ideal.div _ (((1 : ℝ) : EReal) + ((Real.exp (-(500 * r)) : ℝ) : EReal)) = _ * ((Real.tanh (r * 250) : ℝ) : EReal) + _
    rw [← EReal.coe_add, ← EReal.coe_mul, ← EReal.coe_add, ← real_logistic]
    unfold Ideal.div
    rw [if_neg (by exact_mod_cast h), ← EReal.coe_inv, ← EReal.coe_mul]

/-- Multiplying by 250 distributes over a difference of extended reals. -/
theorem sub_mul_250 (a b : EReal) :
    (a - b) * ((250 : ℝ) : EReal) = a * ((250 : ℝ) : EReal) - b * ((250 : ℝ) : EReal) := by
  rw [sub_eq_add_neg, sub_eq_add_neg,
    EReal.right_distrib_of_nonneg_of_ne_top (by norm_num) (EReal.coe_ne_top _), EReal.neg_mul]

/-- Multiplying by 250 distributes over a sum of extended reals, over any range. -/
theorem sum_mul_250 {ι : Type} (s : Finset ι) (f : ι → EReal) :
    (∑ k ∈ s, f k) * ((250 : ℝ) : EReal) = ∑ k ∈ s, f k * ((250 : ℝ) : EReal) := by
  classical
  induction s using Finset.induction_on with
  | empty => simp
  | insert a s ha ih =>
    rw [Finset.sum_insert ha, Finset.sum_insert ha,
      EReal.right_distrib_of_nonneg_of_ne_top (by norm_num) (EReal.coe_ne_top _), ih]

/-- The indicator of one point and one direction: the logistic function of `500·(l − ∑ₖ xₖ·vₖ)` is the half-angle
    form of the difference whose threshold and direction were multiplied by 250 beforehand. -/
theorem indicator_eq (l : EReal) (x v : Fin 3 → EReal) :
    logistic (l - ∑ k, x k * v k)
      = halfAngle (l * ((250 : ℝ) : EReal) - ∑ k, x k * (v k * ((250 : ℝ) : EReal))) := by
  rw [logistic_eq_halfAngle, sub_mul_250, sum_mul_250]
  simp only [mul_assoc]

end Cert.Soft

end
-- ==== Proof.KernelStep.lean ====
/-
  What one grid point of the kernel computes. The body adds to the accumulator, at segment `b` and column `j`, the sum
  over the block's 4000 points of the one-hot weight of the point's segment number times the soft indicator of the
  point and the column.
-/
module

public import proofs.«01_k».proof.Proof.Gen.KernelIdeal.Frame
public import proofs.«01_k».proof.Proof.Sigmoid
public import Idealize.ShloMosaic.Lib.Pointwise
public import Idealize.ShloMosaic.Lib.Pipeline.Value
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Cert.KernelIdeal.Gen
open scoped BigOperators

/-- The weight of segment number `s` in row `b` of the one-hot matrix: one where the two agree, zero elsewhere. -/
def hot (s : BitVec 32) (b : Fin 128) : EReal := if s = BitVec.ofNat 32 b.val then 1 else 0

/-- The one-hot weight as the body forms it: the comparison's bit, widened and converted to a float. -/
theorem hot_eq (s : BitVec 32) (b : Fin 128) :
    (FloatOps.sitofp .f32 ((IntOp.cmpi .eq (BitVec.ofNat 32 b.val) s).setWidth 32) : Ideal .f32) = hot s b := by
  rw [show IntOp.cmpi .eq (BitVec.ofNat 32 b.val) s = BitVec.ofBool (decide (BitVec.ofNat 32 b.val = s)) from by
    show BitVec.ofBool (_ == _) = _; rw [beq_eq_decide]]
  unfold hot
  by_cases h : s = BitVec.ofNat 32 b.val
  · rw [if_pos h, decide_eq_true h.symm]
    show (((1#32 : BitVec 32).toInt : ℝ) : EReal) = 1
    norm_num
  · rw [if_neg h, decide_eq_false (fun e => h e.symm)]
    show (((0#32 : BitVec 32).toInt : ℝ) : EReal) = 0
    norm_num

/-- The block's contribution to segment `b` and column `j`, from the block `x` of points, the directions `v`, the row
    `l` of thresholds and the segment numbers `s`. -/
def blockSum (x : Vec Ideal S4000x3 .f32) (v : Vec Ideal S3x1024 .f32) (l : Fin 1024 → EReal)
    (s : Vec Ideal S1x1x4000 .i32) (b : Fin 128) (j : Fin 1024) : EReal :=
  ∑ k : Fin 4000, hot (s (ix3 0 0 k)) b * Soft.halfAngle (l j - ∑ d : Fin 3, x (ix2 k d) * v (ix2 d j))

/-- The body's stored value at segment `b` and column `j`: the accumulator's plus the block's contribution. -/
theorem pay2_apply (x : Vec Ideal S4000x3 .f32) (v : Vec Ideal S3x1024 .f32) (l : Vec Ideal S1x1024 .f32)
    (s : Vec Ideal S1x1x4000 .i32) (acc : Vec Ideal S128x1024 .f32) (b : Fin 128) (j : Fin 1024) :
    k0_pay2 (F := Ideal) x v l s acc (ix2 b j)
      = acc (ix2 b j) + blockSum x v (fun j => l (ix2 0 j)) s b j := by
  unfold blockSum Soft.halfAngle
  simp only [← hot_eq]
  pointwise [k0_pay2]
  simp only [Soft.word_half]

/-- The zero block the first point stores reads zero everywhere. -/
theorem pay1_apply (i : S128x1024.Idx) : k0_pay1 (F := Ideal) i = 0 := Soft.word_zero

/-- The offsets of a whole-block access are all zero, at rank 2 and at rank 3. -/
theorem off2 : (![0, 0] : Fin 2 → Nat) = fun _ => 0 := by decide
theorem off3 : (![0, 0, 0] : Fin 3 → Nat) = fun _ => 0 := by decide

/-- At a later point the body leaves the accumulator `xo` plus the block's contribution. -/
theorem out_later (c : Dev nD) (i : grid0.Coords) (a1 : Memref sig .tc .vmem S4000x3 .f32) (h1 : a1.IsWhole)
    (a2 : Memref sig .tc .vmem S1x1x4000 .i32) (h2 : a2.IsWhole) (a3 : Memref sig .tc .vmem S3x1024 .f32) (h3 : a3.IsWhole)
    (a4 : Memref sig .tc .vmem S8x1024 .f32) (h4 : a4.IsWhole) (a5 : Memref sig .tc .vmem S128x1024 .f32) (h5 : a5.IsWhole)
    (hc : ¬cond0_0 i) (x0 : Vec Ideal S4000x3 .f32) (x1 : Vec Ideal S1x1x4000 .i32) (x2 : Vec Ideal S3x1024 .f32)
    (x3 : Vec Ideal S8x1024 .f32) (xo : Vec Ideal S128x1024 .f32) (b : Fin 128) (j : Fin 1024) :
    out0_B_4 c i a1 h1 a2 h2 a3 h3 a4 h4 a5 h5 hc x0 x1 x2 x3 xo (ix2 b j)
      = xo (ix2 b j) + blockSum x0 x2 (fun j => x3 (ix2 0 j)) x1 b j := by
  unfold out0_B_4
  rw [View.read_writes_eq_canon _ _ _ (cover0_B_4 c i a1 h1 a2 h2 a3 h3 a4 h4 a5 h5 hc x0 x1 x2 x3 xo)]
  unfold kernelRun0_B
  dsimp only
  rw [View.canon_unit_zero off2]
  simp only [View.readAt_eq_ld, h1.read_unread, h2.read_unread, h3.read_unread, h4.read_unread, h5.read_unread]
  rw [pay2_apply]
  simp only [View.ld_unit_zero (S := S4000x3) off2, View.ld_unit_zero (S := S3x1024) off2,
    View.ld_unit_zero (S := S1x1x4000) off3]
  pointwise

/-- At the first point the body leaves the block's contribution, the accumulator having been set to zero. -/
theorem out_first (c : Dev nD) (i : grid0.Coords) (a1 : Memref sig .tc .vmem S4000x3 .f32) (h1 : a1.IsWhole)
    (a2 : Memref sig .tc .vmem S1x1x4000 .i32) (h2 : a2.IsWhole) (a3 : Memref sig .tc .vmem S3x1024 .f32) (h3 : a3.IsWhole)
    (a4 : Memref sig .tc .vmem S8x1024 .f32) (h4 : a4.IsWhole) (a5 : Memref sig .tc .vmem S128x1024 .f32) (h5 : a5.IsWhole)
    (hc : cond0_0 i) (x0 : Vec Ideal S4000x3 .f32) (x1 : Vec Ideal S1x1x4000 .i32) (x2 : Vec Ideal S3x1024 .f32)
    (x3 : Vec Ideal S8x1024 .f32) (b : Fin 128) (j : Fin 1024) :
    out0_A_4 c i a1 h1 a2 h2 a3 h3 a4 h4 a5 h5 hc x0 x1 x2 x3 (ix2 b j)
      = blockSum x0 x2 (fun j => x3 (ix2 0 j)) x1 b j := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S128x1024) off2, View.readCov_unit_zero (S := S128x1024) _ off2]
  simp only [View.readAt_eq_ld, h1.read_unread, h2.read_unread, h3.read_unread, h4.read_unread]
  rw [pay2_apply, pay1_apply, zero_add]
  simp only [View.ld_unit_zero (S := S4000x3) off2, View.ld_unit_zero (S := S3x1024) off2,
    View.ld_unit_zero (S := S1x1x4000) off3]
  pointwise

end Cert.KernelIdeal.Hand

end
-- ==== Proof.KernelBlocks.lean ====
/-
  Which elements of the arguments each grid point reads. Point `t` reads the points `4000·t + k` and their segment
  numbers; every point reads the same directions and thresholds, both multiplied by 250, laid out so that column `j`
  holds direction `j % 32` and threshold `j / 32`.
-/
module

public import proofs.«01_k».proof.Proof.KernelStep
public import Idealize.ShloMosaic.Lib.Claim

@[expose] public section

set_option maxRecDepth 16384

noncomputable section

namespace Cert.KernelIdeal.Hand

open Idealize.ShloMosaic Idealize.ShloMosaic.TcCoe Idealize.ShloMosaic.Tactic
open Cert.KernelIdeal.Gen
open scoped BigOperators

variable (m : (ℓ : Loc nD τ sig) → Buf (Elt Ideal) ℓ)

/-- The argument arrays on device `c`: points, segment numbers, directions, thresholds. -/
abbrev argX (c : Dev nD) : Vec Ideal S500000x3 .f32 := m ((c : Thread nD τ).loc main_arg0)
abbrev argS (c : Dev nD) : Vec Ideal S500000 .i32 := m ((c : Thread nD τ).loc main_arg1)
abbrev argV (c : Dev nD) : Vec Ideal S3x32 .f32 := m ((c : Thread nD τ).loc main_arg2)
abbrev argL (c : Dev nD) : Vec Ideal S32 .f32 := m ((c : Thread nD τ).loc main_arg3)

/-- The number of the `k`-th point of block `t`. -/
def pt (t : Fin cfg0.N) (k : Fin 4000) : Fin 500000 :=
  ⟨t.val * 4000 + k.val, by have h : t.val < 125 := Nat.lt_of_lt_of_eq t.isLt N_0; have := k.isLt; omega⟩

/-- The one grid coordinate of point `t` is `t`. -/
theorem coord_val (t : Fin cfg0.N) : (grid0.coords t 0).val = t.val := by
  have ht : t.val < 125 := Nat.lt_of_lt_of_eq t.isLt N_0
  have e : (grid0.coords t 0).val = t.val / 1 % 125 := Pipeline.Grid.coords_val t 0 (by decide) rfl
  rw [e]; omega

/-- The word of the grid coordinate reads back as `t`. -/
theorem coord_word (t : Fin cfg0.N) : (BitVec.ofNat 32 (grid0.coords t 0).val).toNat = t.val := by
  have ht : t.val < 125 := Nat.lt_of_lt_of_eq t.isLt N_0
  rw [coord_val, BitVec.toNat_ofNat]; omega

/-- The grid finds the segment numbers cut into 125 rows of 4000. -/
theorem entry_s (c : Dev nD) : V m c main_v11 = shapeCast S125x1x4000 (argS m c) shapeCasts_S500000_S125x1x4000 := by
  simp only [V, V0, List.flatten_cons, List.flatten_nil, List.append_nil]
  after_results
  all_goals rfl

/-- The grid finds the directions times 250, repeated 32 times along the columns. -/
theorem entry_v (c : Dev nD) : V m c main_v4
    = shapeCast S3x1024 (broadcastInDim S1x3x32x32 ![0, 1, 2, 3] bcast_S1x3x1x32_S1x3x32x32_0_1_2_3
        (shapeCast S1x3x1x32 (mulf (argV m c) (broadcastInDim S3x32 ![] bcast_S_S3x32
          (constant (F := Ideal) S_ .f32 0x437A0000#32))) shapeCasts_S3x32_S1x3x1x32)) shapeCasts_S1x3x32x32_S3x1024 := by
  simp only [V, V0, List.flatten_cons, List.flatten_nil, List.append_nil]
  after_results
  all_goals rfl

/-- The grid finds the thresholds times 250, each repeated in 32 adjacent columns, in eight equal rows. -/
theorem entry_l (c : Dev nD) : V m c main_v10
    = broadcastInDim S8x1024 ![0, 1] bcast_S1x1024_S8x1024_0_1 (broadcastInDim S1x1024 ![1] bcast_S1024_S1x1024_1
        (shapeCast S1024 (broadcastInDim S32x32 ![0] bcast_S32_S32x32_0 (mulf (argL m c)
          (broadcastInDim S32 ![] bcast_S_S32 (constant (F := Ideal) S_ .f32 0x437A0000#32)))) shapeCasts_S32x32_S1024)) := by
  simp only [V, V0, List.flatten_cons, List.flatten_nil, List.append_nil]
  after_results
  all_goals rfl

/-- Window 0's block at point `t` holds the points of block `t`. -/
theorem block_x (c : Dev nD) (t : Fin cfg0.N) (k : Fin 4000) (d : Fin 3) :
    (iblk m c 0 t : Vec Ideal S4000x3 .f32) (ix2 k d) = argX m c (ix2 (pt t k) d) := by
  unfold iblk
  rw [View.read_apply]
  show V m c main_arg0 _ = _
  rw [V_main_arg0]
  congr 1
  funext a
  apply Fin.ext
  match a with
  | ⟨0, _⟩ => show (BitVec.ofNat 32 (grid0.coords t 0).val).toNat * 4000 + 1 * k.val = t.val * 4000 + k.val
              rw [coord_word]; omega
  | ⟨1, _⟩ => show 0 * 3 + 1 * d.val = d.val; omega

/-- Window 1's block at point `t` holds the segment numbers of the points of block `t`. -/
theorem block_s (c : Dev nD) (t : Fin cfg0.N) (k : Fin 4000) :
    (iblk m c 1 t : Vec Ideal S1x1x4000 .i32) (ix3 0 0 k) = argS m c (ix1 (pt t k)) := by
  have ht : t.val < 125 := Nat.lt_of_lt_of_eq t.isLt N_0
  unfold iblk
  rw [View.read_apply]
  show V m c main_v11 _ = _
  have e : ((View.slice (win0_1.arr).view (win0_1.rect t)).emb (ix3 0 0 k) : S125x1x4000.Idx) = ix3 ⟨t.val, ht⟩ 0 k := by
    funext a
    apply Fin.ext
    match a with
    | ⟨0, _⟩ => show (BitVec.ofNat 32 (grid0.coords t 0).val).toNat * 1 + 1 * 0 = t.val
                rw [coord_word]; omega
    | ⟨1, _⟩ => rfl
    | ⟨2, _⟩ => show 0 * 4000 + 1 * k.val = k.val; omega
  refine (congrArg (V m c main_v11) e).trans ?_
  rw [entry_s]
  pointwise
  rfl

/-- Window 2's block at every point holds direction `j % 32` times 250 in column `j`. -/
theorem block_v (c : Dev nD) (t : Fin cfg0.N) (d : Fin 3) (j : Fin 1024) :
    (iblk m c 2 t : Vec Ideal S3x1024 .f32) (ix2 d j)
      = argV m c (ix2 d ⟨j.val % 32, Nat.mod_lt _ (by decide)⟩) * ((250 : ℝ) : EReal) := by
  unfold iblk
  rw [View.read_apply]
  show V m c main_v4 _ = _
  have e : ((View.slice (win0_2.arr).view (win0_2.rect t)).emb (ix2 d j) : S3x1024.Idx) = ix2 d j := by
    funext a
    apply Fin.ext
    match a with
    | ⟨0, _⟩ => show 0 * 3 + 1 * d.val = d.val; omega
    | ⟨1, _⟩ => show 0 * 1024 + 1 * j.val = j.val; omega
  refine (congrArg (V m c main_v4) e).trans ?_
  rw [entry_v]
  pointwise
  rw [Soft.word_250]

/-- Window 3's block at every point holds threshold `j / 32` times 250 in column `j`, in its first row. -/
theorem block_l (c : Dev nD) (t : Fin cfg0.N) (j : Fin 1024) :
    (iblk m c 3 t : Vec Ideal S8x1024 .f32) (ix2 0 j)
      = argL m c (ix1 ⟨j.val / 32, by have := j.isLt; omega⟩) * ((250 : ℝ) : EReal) := by
  unfold iblk
  rw [View.read_apply]
  show V m c main_v10 _ = _
  have e : ((View.slice (win0_3.arr).view (win0_3.rect t)).emb (ix2 0 j) : S8x1024.Idx) = ix2 0 j := by
    funext a
    apply Fin.ext
    match a with
    | ⟨0, _⟩ => rfl
    | ⟨1, _⟩ => show 0 * 1024 + 1 * j.val = j.val; omega
  refine (congrArg (V m c main_v10) e).trans ?_
  rw [entry_l]
  pointwise
  rw [Soft.word_250]

/-- What point number `n` contributes to segment `b` and column `j`: the one-hot weight of its segment number times
    its soft indicator for direction `j % 32` and threshold `j / 32`. -/
def term (c : Dev nD) (b : Fin 128) (j : Fin 1024) (n : Fin 500000) : EReal :=
  hot (argS m c (ix1 n)) b * Soft.halfAngle
    (argL m c (ix1 ⟨j.val / 32, by have := j.isLt; omega⟩) * ((250 : ℝ) : EReal)
      - ∑ d : Fin 3, argX m c (ix2 n d) * (argV m c (ix2 d ⟨j.val % 32, Nat.mod_lt _ (by decide)⟩) * ((250 : ℝ) : EReal)))

/-- The contribution of block `t` is the sum of its points' contributions. -/
theorem block_sum (c : Dev nD) (t : Fin cfg0.N) (b : Fin 128) (j : Fin 1024) :
    blockSum (iblk m c 0 t) (iblk m c 2 t) (fun j => (iblk m c 3 t : Vec Ideal S8x1024 .f32) (ix2 0 j)) (iblk m c 1 t) b j
      = ∑ k : Fin 4000, term m c b j (pt t k) := by
  unfold blockSum term
  refine Finset.sum_congr rfl fun k _ => ?_
  dsimp only
  simp only [block_s, block_l, block_x, block_v]

end Cert.KernelIdeal.Hand

end
-- ==== Proof.KernelValue.lean ====
/-
  What the kernel's result holds. The accumulator after point `n` is the sum of the contributions of blocks `0` to `n`;
  the one write-back, after the last point, stores the sum over all 500000 points; the result is that table with its
  1024 columns split into 32 thresholds by 32 directions.
-/
module

public import proofs.«01_k».proof.Proof.KernelBlocks

@[expose] public section

set_option maxRecDepth 16384

noncomputable section

namespace Cert.KernelIdeal.Hand

open Idealize.ShloMosaic Idealize.ShloMosaic.TcCoe Idealize.ShloMosaic.Tactic
open Idealize.SL.Sem
open Cert.KernelIdeal.Gen
open scoped BigOperators

variable (m : (ℓ : Loc nD τ sig) → Buf (Elt Ideal) ℓ) (ρ : Dev nD → PrngReg)

/-- After point `n` the accumulator holds the contributions of the blocks up to and including `n`. -/
theorem acc_eq (c : Dev nD) (b : Fin 128) (j : Fin 1024) : ∀ (n : ℕ) (h : n < cfg0.N),
    outsAt0 m c n h (ix2 b j) = ∑ t : Fin (n + 1), ∑ k : Fin 4000, term m c b j (pt ⟨t.val, by omega⟩ k)
  | 0, h => by
    have e := congrFun (outsAt0_A m c ⟨0, h⟩ rfl) (ix2 b j)
    rw [out_first, block_sum] at e
    rw [Fin.sum_univ_one]
    exact e
  | n + 1, h => by
    have hB : ¬(⟨n + 1, h⟩ : Fin cfg0.N).val % 125 = 0 := by
      have : n + 1 < 125 := Nat.lt_of_lt_of_eq h N_0
      dsimp only; omega
    have e := congrFun (outsAt0_B m c ⟨n + 1, h⟩ hB) (ix2 b j)
    rw [out_later, block_sum] at e
    rw [Fin.sum_univ_castSucc]
    refine e.trans (congrArg₂ (· + ·) (acc_eq c b j n (Nat.lt_of_succ_lt h)) rfl)

/-- A sum over the 125 blocks of 4000 points is the sum over the 500000 points. -/
theorem sum_points (f : Fin 500000 → EReal) :
    ∑ t : Fin 125, ∑ k : Fin 4000, f (pt ⟨t.val, Nat.lt_of_lt_of_eq t.isLt N_0.symm⟩ k) = ∑ n : Fin 500000, f n := by
  rw [← Fintype.sum_prod_type', ← Equiv.sum_comp (finProdFinEquiv (m := 125) (n := 4000)) (fun n => f n)]
  refine Finset.sum_congr rfl fun p _ => congrArg f (Fin.ext ?_)
  show p.1.val * 4000 + p.2.val = p.2.val + 4000 * p.1.val
  omega

/-- The table of all segments and columns: each entry the sum of all points' contributions. -/
def table (c : Dev nD) : Vec Ideal S128x1024 .f32 := fun i => ∑ n : Fin 500000, term m c (i 0) (i 1) n

/-- After the last point the accumulator is the table. -/
theorem acc_last (c : Dev nD) (t : Fin cfg0.N) (ht : t.val = 124) : outsAt0 m c t.val t.isLt = table m c := by
  obtain ⟨n, hn⟩ := t
  obtain rfl : n = 124 := ht
  funext i
  obtain ⟨b, j, rfl⟩ : ∃ (b : Fin 128) (j : Fin 1024), i = ix2 b j := ⟨i 0, i 1, eq_ix2 i⟩
  exact (acc_eq m c b j 124 hn).trans (sum_points (term m c b j))

/-- The block the result window writes back is the whole array: its offsets are zero. -/
theorem out_off (t : Fin cfg0.N) : (fun a => win0_4.index t a * main_v12.ty.shape.size a) = fun _ => 0 :=
  funext fun a => match a with
    | ⟨0, _⟩ => Nat.zero_mul _
    | ⟨1, _⟩ => Nat.zero_mul _

/-- The one write-back stores the table. -/
theorem flushed_table (c : Dev nD) (t : Fin cfg0.N) (hf : (cfg0.win 4).flush t = true) :
    (dats m 0 c).flushed 4 t = ((cfg0.win 4).blk t).view.read (Elt Ideal) (table m c) := by
  have hl : t.val < 125 := Nat.lt_of_lt_of_eq t.isLt N_0
  have ht : t.val = 124 := by have := (flush0_4 t).mp hf; omega
  show (cfg0.win 4).cut (grid0.coords t) ((dats m 0 c).after 4 t) = _
  rw [after0_4, acc_last m c t ht]
  exact (Memref.read_access_unit_zero (Elt Ideal) main_v12 (out_off t)
    (fun a => by rw [congrFun (out_off t) a]; simp) (table m c)).symm

/-- The last grid point. -/
abbrev lastPt : Fin cfg0.N := ⟨124, by rw [show cfg0.N = 125 from N_0]; decide⟩

/-- So the array the grid writes ends as the table. -/
theorem array_table (c : Dev nD) : (dats m 0 c).arrAt 4 cfg0.N = table m c :=
  (dats m 0 c).arrAt_eq_of_cover 4 (table m c) (flushed_table m c) fun i =>
    ⟨lastPt, (flush0_4 lastPt).mpr rfl, by
      show i ∈ ((View.whole main_v12).slice (win0_4.rect lastPt)).set
      rw [View.set_slice_whole, Rect.mem_set_unit]
      intro a
      have h0 : (i 0 : Nat) < 128 := (i 0).isLt
      have h1 : (i 1 : Nat) < 1024 := (i 1).isLt
      match a with
      | ⟨0, _⟩ => show 0 * 128 ≤ (i 0 : Nat) ∧ (i 0 : Nat) < 0 * 128 + 128; omega
      | ⟨1, _⟩ => show 0 * 1024 ≤ (i 1 : Nat) ∧ (i 1 : Nat) < 0 * 1024 + 1024; omega⟩

/-- The kernel's result: the table with its columns split into thresholds and directions. -/
def result (c : Dev nD) : Vec Ideal S128x32x32 .f32 := shapeCast S128x32x32 (table m c) shapeCasts_S128x1024_S128x32x32

/-- The operation after the grid leaves the result in its buffer. -/
theorem tail_result (c : Dev nD) :
    Pipeline.afterTail₀ cfgs (dats m) 0 (V0 m) [hostOps1] c main_v13 = result m c := by
  unfold Pipeline.afterTail₀
  have e := (Pipeline.withArrays_arr spec0 (by decide) c (V0 m c)
    (fun w => (dats m 0 c).arrAt w cfg0.N) 4).trans (array_table m c)
  simp only [List.flatten_cons, List.flatten_nil, List.append_nil]
  after_results
  exact congrArg (fun x : Vec Ideal S128x1024 .f32 => shapeCast S128x32x32 x shapeCasts_S128x1024_S128x32x32) e

/-- The kernel's run: the result buffer ends at `result`, the arguments as they began. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v13 (Pipeline.mem_restRefs_of main_v13 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefValue.lean ====
/-
  What the reference computes. Entry `(b, r, t)` of its result is the sum, over the points whose segment number is `b`,
  of the logistic function of 500 times threshold `r` less the point's height in direction `t`.
-/
module

public import proofs.«01_k».proof.Proof.Gen.ReferenceIdeal.Run
public import proofs.«01_k».proof.Proof.Gen.ReferenceIdeal.Read
public import proofs.«01_k».proof.Proof.Sigmoid
public import Idealize.ShloMosaic.Lib.Pointwise

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Read
open scoped BigOperators

/-- The scatter's dimension numbers: axis 0 of the result is chosen by the segment number. -/
abbrev sd := scatter_S128x32x32_S500000x1_S500000x32x32_12_0_0_1

/-- The segment number decides where along axis 0 update `(n, r, t)` starts; -/
theorem start0 (idx : IVec S500000x1 32) (n : Fin 500000) (r t : Fin 32) :
    sd.start (ix3 n r t) idx 0 = (idx (ix2 n 0)).toInt := by
  unfold ScatterDims.start
  rw [dif_pos (by decide)]
  congr 2
  funext a
  match a with
  | ⟨0, _⟩ => rfl
  | ⟨1, _⟩ => rfl
/-- along axes 1 and 2 it starts at zero. -/
theorem start1 (idx : IVec S500000x1 32) (j : S500000x32x32.Idx) : sd.start j idx 1 = 0 := by
  unfold ScatterDims.start
  exact dif_neg (by decide)
theorem start2 (idx : IVec S500000x1 32) (j : S500000x32x32.Idx) : sd.start j idx 2 = 0 := by
  unfold ScatterDims.start
  exact dif_neg (by decide)
/-- Update `(n, r, t)` has window coordinates `r` and `t` along axes 1 and 2, none along axis 0. -/
theorem window0 (j : S500000x32x32.Idx) : sd.window j 0 = 0 := by
  unfold ScatterDims.window
  exact dif_neg (by decide)
theorem window1 (n : Fin 500000) (r t : Fin 32) : sd.window (ix3 n r t) 1 = r.val := by
  unfold ScatterDims.window
  rw [dif_pos (by decide)]
  rfl
theorem window2 (n : Fin 500000) (r t : Fin 32) : sd.window (ix3 n r t) 2 = t.val := by
  unfold ScatterDims.window
  rw [dif_pos (by decide)]
  rfl

/-- Update `(n, r, t)` lands on entry `(b, r', t')` exactly when point `n`'s segment number is `b` and `r = r'`,
    `t = t'`; an update whose segment number is no segment lands nowhere. -/
theorem lands_iff (idx : IVec S500000x1 32) (n : Fin 500000) (r t : Fin 32) (b : Fin 128) (r' t' : Fin 32) :
    sd.resultIdx? (ix3 n r t) idx = some (ix3 b r' t') ↔ idx (ix2 n 0) = BitVec.ofNat 32 b.val ∧ r = r' ∧ t = t' := by
  have hb := b.isLt
  have hw : idx (ix2 n 0) = BitVec.ofNat 32 b.val ↔ (idx (ix2 n 0)).toInt = (b.val : Int) := by
    have e : (BitVec.ofNat 32 b.val).toInt = (b.val : Int) := by
      rw [BitVec.toInt_eq_toNat_of_lt (by rw [BitVec.toNat_ofNat]; omega), BitVec.toNat_ofNat]; omega
    rw [← e]
    exact BitVec.toInt_inj.symm
  rw [hw]
  have c0 := start0 idx n r t
  have c1 := start1 idx (ix3 n r t)
  have c2 := start2 idx (ix3 n r t)
  have w0 := window0 (ix3 n r t)
  have w1 := window1 n r t
  have w2 := window2 n r t
  unfold ScatterDims.resultIdx?
  constructor
  · intro h
    split at h
    · rename_i hin
      have h := Option.some.inj h
      have i0 := (hin 0).1
      have g0 : (sd.start (ix3 n r t) idx 0 + sd.window (ix3 n r t) 0).toNat = b.val := congrArg Fin.val (congrFun h 0)
      have g1 : (sd.start (ix3 n r t) idx 1 + sd.window (ix3 n r t) 1).toNat = r'.val := congrArg Fin.val (congrFun h 1)
      have g2 : (sd.start (ix3 n r t) idx 2 + sd.window (ix3 n r t) 2).toNat = t'.val := congrArg Fin.val (congrFun h 2)
      exact ⟨by omega, Fin.ext (by omega), Fin.ext (by omega)⟩
    · exact absurd h (by simp)
  · rintro ⟨h0, rfl, rfl⟩
    have hr := r.isLt
    have ht := t.isLt
    rw [dif_pos (fun a => match a with
      | ⟨0, _⟩ => by
        show 0 ≤ sd.start (ix3 n r t) idx 0 + sd.window (ix3 n r t) 0 ∧ sd.start (ix3 n r t) idx 0 + sd.window (ix3 n r t) 0 < (128 : Nat)
        omega
      | ⟨1, _⟩ => by
        show 0 ≤ sd.start (ix3 n r t) idx 1 + sd.window (ix3 n r t) 1 ∧ sd.start (ix3 n r t) idx 1 + sd.window (ix3 n r t) 1 < (32 : Nat)
        omega
      | ⟨2, _⟩ => by
        show 0 ≤ sd.start (ix3 n r t) idx 2 + sd.window (ix3 n r t) 2 ∧ sd.start (ix3 n r t) idx 2 + sd.window (ix3 n r t) 2 < (32 : Nat)
        omega)]
    congr 1
    funext a
    apply Fin.ext
    match a with
    | ⟨0, _⟩ => show (sd.start (ix3 n r t) idx 0 + sd.window (ix3 n r t) 0).toNat = b.val; omega
    | ⟨1, _⟩ => show (sd.start (ix3 n r t) idx 1 + sd.window (ix3 n r t) 1).toNat = r.val; omega
    | ⟨2, _⟩ => show (sd.start (ix3 n r t) idx 2 + sd.window (ix3 n r t) 2).toNat = t.val; omega

/-- The sum over the updates landing on entry `(b, r, t)` is the sum over the points whose segment number is `b`. -/
theorem landing_sum (idx : IVec S500000x1 32) (upd : S500000x32x32.Idx → EReal) (b : Fin 128) (r t : Fin 32) :
    ∑ j ∈ Finset.univ.filter (fun j => sd.resultIdx? j idx = some (ix3 b r t)), upd j
      = ∑ n : Fin 500000, if idx (ix2 n 0) = BitVec.ofNat 32 b.val then upd (ix3 n r t) else 0 := by
  classical
  rw [← Finset.sum_filter]
  refine Finset.sum_bij' (fun j _ => (j 0 : Fin 500000)) (fun n _ => ix3 n r t) ?_ ?_ ?_ ?_ ?_
  · intro j hj
    obtain ⟨n, r', t', rfl⟩ : ∃ (n : Fin 500000) (r' t' : Fin 32), j = ix3 n r' t' := ⟨j 0, j 1, j 2, eq_ix3 j⟩
    exact Finset.mem_filter.2 ⟨Finset.mem_univ _, ((lands_iff ..).1 (Finset.mem_filter.1 hj).2).1⟩
  · intro n hn
    exact Finset.mem_filter.2 ⟨Finset.mem_univ _, (lands_iff ..).2 ⟨(Finset.mem_filter.1 hn).2, rfl, rfl⟩⟩
  · intro j hj
    obtain ⟨n, r', t', rfl⟩ : ∃ (n : Fin 500000) (r' t' : Fin 32), j = ix3 n r' t' := ⟨j 0, j 1, j 2, eq_ix3 j⟩
    obtain ⟨-, rfl, rfl⟩ := (lands_iff ..).1 (Finset.mem_filter.1 hj).2
    rfl
  · intro n _; rfl
  · intro j hj
    obtain ⟨n, r', t', rfl⟩ : ∃ (n : Fin 500000) (r' t' : Fin 32), j = ix3 n r' t' := ⟨j 0, j 1, j 2, eq_ix3 j⟩
    obtain ⟨-, rfl, rfl⟩ := (lands_iff ..).1 (Finset.mem_filter.1 hj).2
    rfl

/-- The soft indicator of point `n`, threshold `r` and direction `t`, as the reference computes it. -/
theorem soft_apply (x : Vec Ideal S500000x3 .f32) (v : Vec Ideal S3x32 .f32) (l : Vec Ideal S32 .f32)
    (n : Fin 500000) (r t : Fin 32) :
    val_main_v13 (F := Ideal) x v l (ix3 n r t)
      = Soft.logistic (l (ix1 r) - ∑ d : Fin 3, x (ix2 n d) * v (ix2 d t)) := by
  unfold Soft.logistic
  rw [← Soft.word_one, ← Soft.word_500]
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1]

/-- The reference's result at segment `b`, threshold `r` and direction `t`. -/
theorem result_apply (x : Vec Ideal S500000x3 .f32) (s : Vec Ideal S500000 .i32) (v : Vec Ideal S3x32 .f32)
    (l : Vec Ideal S32 .f32) (b : Fin 128) (r t : Fin 32) :
    val_main_v16 (F := Ideal) x s v l (ix3 b r t)
      = ∑ n : Fin 500000, if s (ix1 n) = BitVec.ofNat 32 b.val
          then Soft.logistic (l (ix1 r) - ∑ d : Fin 3, x (ix2 n d) * v (ix2 d t)) else 0 := by
  show val_main_v14 (F := Ideal) (ix3 b r t) + ∑ j ∈ Finset.univ.filter (fun j => sd.resultIdx? j (val_main_v15 (F := Ideal) s) = some (ix3 b r t)),
    val_main_v13 (F := Ideal) x v l j = _
  have z : val_main_v14 (F := Ideal) (ix3 b r t) = 0 := Soft.word_zero
  rw [z, zero_add, landing_sum]
  refine Finset.sum_congr rfl fun n _ => ?_
  rw [soft_apply]
  have e : val_main_v15 (F := Ideal) s (ix2 n 0) = s (ix1 n) := by
    pointwise [val_main_v15]
  rw [e]

end Cert.ReferenceIdeal.Hand

end
-- ==== Proof.Equation.lean ====
/-
  The equation: the kernel's result and the reference's are the same array of extended reals.
-/
module

public import proofs.«01_k».proof.Proof.KernelValue
public import proofs.«01_k».proof.Proof.RefValue

@[expose] public section

set_option maxRecDepth 16384

noncomputable section

namespace Cert.Hand

open Idealize.ShloMosaic Idealize.ShloMosaic.TcCoe
open Cert.KernelIdeal Cert.KernelIdeal.Gen Cert.KernelIdeal.Hand
open scoped BigOperators

variable (m : (ℓ : Loc nD τ sig) → Buf (Elt Ideal) ℓ)

/-- Threshold `r` and direction `t` sit in column `32 r + t` of the kernel's table. -/
def col (r t : Fin 32) : Fin 1024 := ⟨32 * r.val + t.val, by omega⟩

/-- The kernel's result at segment `b`, threshold `r` and direction `t` is its table at column `32 r + t`. -/
theorem kernel_apply (c : Dev nD) (b : Fin 128) (r t : Fin 32) :
    result m c (ix3 b r t) = ∑ n : Fin 500000, term m c b (col r t) n := by
  have e : (shapeCast S128x32x32 (table m c) shapeCasts_S128x1024_S128x32x32 : Vec Ideal S128x32x32 .f32) (ix3 b r t)
      = table m c (ix2 b (col r t)) := by
    pointwise
    exact congrArg (fun q : Fin 1024 => table m c (ix2 b q)) (Fin.ext (by show r.val * 32 + t.val = 32 * r.val + t.val; omega))
  exact e

/-- One point's contribution, as the reference computes it. -/
theorem term_eq (c : Dev nD) (b : Fin 128) (r t : Fin 32) (n : Fin 500000) :
    term m c b (col r t) n
      = if argS m c (ix1 n) = BitVec.ofNat 32 b.val
          then Soft.logistic (argL m c (ix1 r) - ∑ d : Fin 3, argX m c (ix2 n d) * argV m c (ix2 d t)) else 0 := by
  have hr : (⟨(col r t).val / 32, by have := (col r t).isLt; omega⟩ : Fin 32) = r := Fin.ext (by show (32 * r.val + t.val) / 32 = r.val; omega)
  have ht : (⟨(col r t).val % 32, Nat.mod_lt _ (by decide)⟩ : Fin 32) = t := Fin.ext (by show (32 * r.val + t.val) % 32 = t.val; omega)
  unfold term hot
  rw [hr, ht, ← Soft.indicator_eq (argL m c (ix1 r)) (fun d => argX m c (ix2 n d)) (fun d => argV m c (ix2 d t))]
  split
  · exact one_mul _
  · exact zero_mul _

/-- The two results agree at every entry. -/
theorem result_eq (c : Dev nD) :
    Cert.ReferenceIdeal.Read.val_main_v16 (F := Ideal) (argX m c) (argS m c) (argV m c) (argL m c) = result m c := by
  funext i
  obtain ⟨b, r, t, rfl⟩ : ∃ (b : Fin 128) (r t : Fin 32), i = ix3 b r t := ⟨i 0, i 1, i 2, eq_ix3 i⟩
  rw [kernel_apply, Cert.ReferenceIdeal.Hand.result_apply]
  exact Finset.sum_congr rfl fun n _ => (term_eq m c b r t n).symm

end Cert.Hand

end
-- ==== Proof.lean ====
/-
  The proof of `Cert.Claim`: the kernel's version and its idealization, and the reference, each run with their arguments
  unchanged and every semaphore back at zero; the idealization rewrites nothing; and over the extended reals the kernel
  and the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments unchanged and every semaphore at zero. -/
theorem frame_reference : Cert.quiescent_ReferenceIdeal := by
  intro m ρ _
  exact (θ_run _ _ _).mono (fun r h => ⟨fun c => (h c).2, sem_eq_zero_of_no_sems (by decide) r.2⟩)
    (Cert.ReferenceIdeal.Value.run m ρ)

/-- Over the extended reals the kernel's idealization and the reference end with equal results. -/
theorem equal_results : Cert.algebraic_KernelIdeal_ReferenceIdeal := by
  intro m g m' g' _ hagree
  refine ⟨fun c => Cert.KernelIdeal.Hand.result m c, Cert.KernelIdeal.Hand.run m g, ?_⟩
  refine (θ_run _ _ _).mono (fun r h c => ⟨(h c).1.trans ?_, (h c).2⟩) (Cert.ReferenceIdeal.Value.run m' g')
  obtain ⟨a0, a1, a2, a3⟩ := hagree c
  rw [a0, a1, a2, a3]
  exact (Cert.ReferenceIdeal.Read.val_main_v16_eq _ _ _ _).trans (Cert.Hand.result_eq m c)

/-- Everything claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    equal_results⟩

end Cert.Proof

end
